-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S100000x512 : Shape := ⟨2, ![100000, 512]⟩
abbrev S100000 : Shape := ⟨1, ![100000]⟩
abbrev S512 : Shape := ⟨1, ![512]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S100000x512 .f32) (main_arg1 : IVec S100000 32) (main_arg2 : FVec F S512 .f32) (main_arg3 : FVec F S512 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 64#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : FVec F S100000x512 .f32 := Host.absf main_arg0
  let main_cst : FVec F S_ .f32 := constant S_ .f32 0x7F800000#32
  let main_v8 : FVec F S100000x512 .f32 := broadcastInDim S100000x512 ![] bcast_S_S100000x512 main_cst
  let main_v9 : IVec S100000x512 1 := cmpf .olt main_v7 main_v8
  let main_c_3 : IVec S_ 1 := constantI S_ 1 1#1
  let main_v10 : IVec S_ 1 := (fun x v => Host.reduce IntOp.andi x v reducesTo_S100000x512_S_d0_1 h_S_) main_v9 main_c_3
  let main_v11 : IVec S_ 1 := andi main_v6 main_v10
  let main_v12 : FVec F S512 .f32 := Host.absf main_arg2
  let main_cst_4 : FVec F S_ .f32 := constant S_ .f32 0x7F800000#32
  let main_v13 : FVec F S512 .f32 := broadcastInDim S512 ![] bcast_S_S512 main_cst_4
  let main_v14 : IVec S512 1 := cmpf .olt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_v11 main_v15
-- ==== Kernel.lean ====
abbrev S100000x512 : Shape := ⟨2, ![100000, 512]⟩
abbrev S100000 : Shape := ⟨1, ![100000]⟩
abbrev S512 : Shape := ⟨1, ![512]⟩
abbrev S50x1x2000 : Shape := ⟨3, ![50, 1, 2000]⟩
abbrev S1x512 : Shape := ⟨2, ![1, 512]⟩
abbrev S64x512 : Shape := ⟨2, ![64, 512]⟩
abbrev S64x128 : Shape := ⟨2, ![64, 128]⟩
abbrev S1x1x2000 : Shape := ⟨3, ![1, 1, 2000]⟩
abbrev S2000x512 : Shape := ⟨2, ![2000, 512]⟩
abbrev S2000 : Shape := ⟨1, ![2000]⟩
abbrev S64x2000 : Shape := ⟨2, ![64, 2000]⟩
abbrev S1x2000 : Shape := ⟨2, ![1, 2000]⟩
abbrev S64 : Shape := ⟨1, ![64]⟩
abbrev S64x1 : Shape := ⟨2, ![64, 1]⟩
abbrev S2000x64 : Shape := ⟨2, ![2000, 64]⟩
abbrev S2000x1 : Shape := ⟨2, ![2000, 1]⟩

abbrev nBuf : Space → Nat
  | .hbm => 11
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512, .f32⟩
  | .hbm, ⟨3, _⟩ => ⟨S512, .f32⟩
  | .hbm, ⟨4, _⟩ => ⟨S50x1x2000, .i32⟩
  | .hbm, ⟨5, _⟩ => ⟨S1x512, .f32⟩
  | .hbm, ⟨6, _⟩ => ⟨S1x512, .f32⟩
  | .hbm, ⟨7, _⟩ => ⟨S64x512, .f32⟩
  | .hbm, ⟨8, _⟩ => ⟨S64x512, .f32⟩
  | .hbm, ⟨9, _⟩ => ⟨S64x128, .f32⟩
  | .hbm, ⟨10, _⟩ => ⟨S100000x512, .f32⟩
  | .local _ .vmem, ⟨0, _⟩ => ⟨S1x1x2000, .i32⟩
  | .local _ .vmem, ⟨1, _⟩ => ⟨S1x1x2000, .i32⟩
  | .local _ .vmem, ⟨2, _⟩ => ⟨S2000x512, .f32⟩
  | .local _ .vmem, ⟨3, _⟩ => ⟨S2000x512, .f32⟩
  | .local _ .vmem, ⟨4, _⟩ => ⟨S64x512, .f32⟩
  | .local _ .vmem, ⟨5, _⟩ => ⟨S64x512, .f32⟩
  | .local _ .vmem, ⟨6, _⟩ => ⟨S64x128, .f32⟩
  | .local _ .vmem, ⟨7, _⟩ => ⟨S1x1x2000, .i32⟩
  | .local _ .vmem, ⟨8, _⟩ => ⟨S1x1x2000, .i32⟩
  | .local _ .vmem, ⟨9, _⟩ => ⟨S2000x512, .f32⟩
  | .local _ .vmem, ⟨10, _⟩ => ⟨S2000x512, .f32⟩
  | .local _ .vmem, ⟨11, _⟩ => ⟨S64x512, .f32⟩
  | .local _ .vmem, ⟨12, _⟩ => ⟨S64x512, .f32⟩
  | .local _ .vmem, ⟨13, _⟩ => ⟨S64x128, .f32⟩
  | .local _ .vmem, ⟨14, _⟩ => ⟨S1x512, .f32⟩
  | .local _ .vmem, ⟨15, _⟩ => ⟨S1x512, .f32⟩
  | .local _ .vmem, ⟨16, _⟩ => ⟨S2000x512, .f32⟩
  | .local _ .vmem, ⟨17, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x2000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S100000x512 : Shape := ⟨2, ![100000, 512]⟩
abbrev S100000 : Shape := ⟨1, ![100000]⟩
abbrev S512 : Shape := ⟨1, ![512]⟩
abbrev S_ : Shape := ⟨0, ![]⟩
abbrev S64 : Shape := ⟨1, ![64]⟩
abbrev S100000x1 : Shape := ⟨2, ![100000, 1]⟩
abbrev S64x512 : Shape := ⟨2, ![64, 512]⟩
abbrev S64x1 : Shape := ⟨2, ![64, 1]⟩
abbrev S1x512 : Shape := ⟨2, ![1, 512]⟩

abbrev nBuf : Space → Nat
  | .hbm => 61
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S100000, .f32⟩
  | .hbm, ⟨6, _⟩ => ⟨S_, .f32⟩
  | .hbm, ⟨7, _⟩ => ⟨S64, .f32⟩
  | .hbm, ⟨8, _⟩ => ⟨S100000x1, .i32⟩
  | .hbm, ⟨9, _⟩ => ⟨S64, .f32⟩
  | .hbm, ⟨10, _⟩ => ⟨S_, .f32⟩
  | .hbm, ⟨11, _⟩ => ⟨S64x512, .f32⟩
  | .hbm, ⟨12, _⟩ => ⟨S100000x1, .i32⟩
  | .hbm, ⟨13, _⟩ => ⟨S64x512, .f32⟩
  | .hbm, ⟨14, _⟩ => ⟨S64x1, .f32⟩
  | .hbm, ⟨15, _⟩ => ⟨S64x512, .f32⟩
  | .hbm, ⟨16, _⟩ => ⟨S64x512, .f32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x512, .f32⟩
  | .hbm, ⟨26, _⟩ => ⟨S100000x512, .f32⟩
  | .hbm, ⟨27, _⟩ => ⟨S100000x512, .f32⟩
  | .hbm, ⟨28, _⟩ => ⟨S_, .f32⟩
  | .hbm, ⟨29, _⟩ => ⟨S64x512, .f32⟩
  | .hbm, ⟨30, _⟩ => ⟨S100000x1, .i32⟩
  | .hbm, ⟨31, _⟩ => ⟨S64x512, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000x512, .f32⟩
  | .hbm, ⟨54, _⟩ => ⟨S100000x512, .f32⟩
  | .hbm, ⟨55, _⟩ => ⟨S1x512, .f32⟩
  | .hbm, ⟨56, _⟩ => ⟨S100000x512, .f32⟩
  | .hbm, ⟨57, _⟩ => ⟨S100000x512, .f32⟩
  | .hbm, ⟨58, _⟩ => ⟨S1x512, .f32⟩
  | .hbm, ⟨59, _⟩ => ⟨S100000x512, .f32⟩
  | .hbm, ⟨60, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Algebra.lean ====
/-
  The mathematics of one entry: over one group of rows the one-pass variance (sum of squares minus sum times mean)
  equals the two-pass variance, and the kernel's scale-and-shift form of the normalized entry equals the reference's
  centred form.
-/
module

public import Idealize.ShloMosaic.PureOps.Ideal.Laws
public import Idealize.ShloMosaic.Lib.IdealHost

@[expose] public section

noncomputable section

namespace Cert.GraphNorm

open Idealize.ShloMosaic

/-- The quotient of two reals whose divisor is not zero is the real quotient. -/
theorem div_real (a b : ℝ) (hb : b ≠ 0) : Ideal.div (a : EReal) (b : EReal) = ((a / b : ℝ) : EReal) := by
  have h : (b : EReal) ≠ 0 := by exact_mod_cast hb
  unfold Ideal.div
  rw [if_neg h, ← EReal.coe_inv, ← EReal.coe_mul, div_eq_mul_inv]

/-- The square root of a real that is not negative is the real square root. -/
theorem sqrt_real (a : ℝ) (ha : 0 ≤ a) : Ideal.sqrt (a : EReal) = ((Real.sqrt a : ℝ) : EReal) := by
  have h : Ideal.sqrt ((a : ℝ) : EReal) = if a < 0 then ⊥ else ((Real.sqrt a : ℝ) : EReal) := rfl
  rw [h, if_neg (not_lt.mpr ha)]

/-- The larger of two reals, taken among the extended reals. -/
theorem max_real (a b : ℝ) : max (a : EReal) (b : EReal) = ((max a b : ℝ) : EReal) :=
  (EReal.coe_strictMono.monotone.map_max).symm

/-- A finite sum of reals, taken among the extended reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The added constant of the standard deviation is a positive real. -/
theorem eps_real : ∃ e : ℝ, 0 < e ∧ Ideal.ofBits .f32 0x3727C5AC#32 = (e : EReal) := by
  refine ⟨(2 : ℝ) ^ (-17 : ℤ) * (1 + 2606508 / 8388608), by positivity, ?_⟩
  simp [Ideal.ofBits, Ideal.ieee, -EReal.coe_mul]; norm_num

/-- Sum of squared distances from the mean: it is the sum of squares minus the sum times the mean. -/
theorem two_pass {ι : Type} (H : Finset ι) (x : ι → ℝ) (hn : (H.card : ℝ) ≠ 0) :
    ∑ q ∈ H, (x q - (∑ p ∈ H, x p) / H.card) * (x q - (∑ p ∈ H, x p) / H.card)
      = (∑ q ∈ H, x q * x q) - (∑ q ∈ H, x q) * ((∑ q ∈ H, x q) / H.card) := by
  generalize hS : ∑ p ∈ H, x p = S
  have h : ∀ q ∈ H, (x q - S / H.card) * (x q - S / H.card)
      = x q * x q - 2 * (S / H.card) * x q + S / H.card * (S / H.card) := fun q _ => by ring
  rw [Finset.sum_congr rfl h, Finset.sum_add_distrib, Finset.sum_sub_distrib, ← Finset.mul_sum, hS, Finset.sum_const,
    nsmul_eq_mul]
  field_simp
  ring

/-- The mean as both programs take it, from a group's sum and its count. -/
def kMean (S N : EReal) : EReal := Ideal.div S (max N 1)

/-- The kernel's scale: the weight over the deviation formed from the sum, the sum of squares and the count. -/
def kScale (S Q N w e : EReal) : EReal :=
  Ideal.div w (Ideal.sqrt (max (Ideal.div (Q - S * kMean S N) (max (N - 1) 1)) 0) + e)

/-- The kernel's shift: the bias minus the mean times the scale. -/
def kShift (S Q N w b e : EReal) : EReal := b - kMean S N * kScale S Q N w e

/-- The reference's entry: weight times centred value over deviation, plus bias. The deviation is formed from the
    second pass `V`. -/
def rEntry (x S V N w b e : EReal) : EReal :=
  w * Ideal.div (x - Ideal.div S N) (Ideal.sqrt (Ideal.div V (max (N - 1) 1)) + e) + b

/-- For a group `H` of at least one row, with real entries and a real weight and any bias, the kernel's entry (value
    times scale, plus shift) is the reference's. -/
theorem entry_eq {ι : Type} (H : Finset ι) (hH : H.Nonempty) (x : ι → ℝ) (r : ι) (w e : ℝ) (he : 0 < e) (b : EReal) :
    (x r : EReal) * kScale (∑ q ∈ H, (x q : EReal)) (∑ q ∈ H, (x q : EReal) * (x q : EReal)) (∑ _q ∈ H, (1 : EReal)) w e
      + kShift (∑ q ∈ H, (x q : EReal)) (∑ q ∈ H, (x q : EReal) * (x q : EReal)) (∑ _q ∈ H, (1 : EReal)) w b e
    = rEntry (x r) (∑ q ∈ H, (x q : EReal))
        (∑ q ∈ H, ((x q : EReal) - Ideal.div (∑ p ∈ H, (x p : EReal)) (∑ _p ∈ H, (1 : EReal)))
          * ((x q : EReal) - Ideal.div (∑ p ∈ H, (x p : EReal)) (∑ _p ∈ H, (1 : EReal))))
        (∑ _q ∈ H, (1 : EReal)) w b e := by
  have hcard : (1 : ℝ) ≤ H.card := by exact_mod_cast hH.card_pos
  have hn : (H.card : ℝ) ≠ 0 := by positivity
  have hN : ∑ _q ∈ H, (1 : EReal) = ((H.card : ℝ) : EReal) := by
    rw [show (1 : EReal) = ((1 : ℝ) : EReal) from rfl, sum_real]; simp
  have hS := sum_real H x
  have hQ : ∑ q ∈ H, (x q : EReal) * (x q : EReal) = ((∑ q ∈ H, x q * x q : ℝ) : EReal) := by
    rw [← sum_real]; exact Finset.sum_congr rfl fun q _ => (EReal.coe_mul _ _).symm
  have hV : ∑ q ∈ H, ((x q : EReal) - Ideal.div (∑ p ∈ H, (x p : EReal)) (∑ _p ∈ H, (1 : EReal)))
      * ((x q : EReal) - Ideal.div (∑ p ∈ H, (x p : EReal)) (∑ _p ∈ H, (1 : EReal)))
      = ((∑ q ∈ H, x q * x q - (∑ q ∈ H, x q) * ((∑ q ∈ H, x q) / H.card) : ℝ) : EReal) := by
    rw [← two_pass H x hn, ← sum_real]
    refine Finset.sum_congr rfl fun q _ => ?_
    rw [hN, hS, div_real _ _ hn, ← EReal.coe_sub, ← EReal.coe_mul]
  have hV0 : 0 ≤ ∑ q ∈ H, x q * x q - (∑ q ∈ H, x q) * ((∑ q ∈ H, x q) / H.card) := by
    rw [← two_pass H x hn]; exact Finset.sum_nonneg fun q _ => mul_self_nonneg _
  rw [hV, hQ, hS, hN]
  unfold kShift kScale kMean rEntry
  have h1 : (1 : EReal) = ((1 : ℝ) : EReal) := rfl
  have h0 : (0 : EReal) = ((0 : ℝ) : EReal) := rfl
  have hd : (max ((H.card : ℝ) - 1) 1 : ℝ) ≠ 0 := (lt_of_lt_of_le one_pos (le_max_right _ _)).ne'
  have hdp : 0 < (max ((H.card : ℝ) - 1) 1 : ℝ) := lt_of_lt_of_le one_pos (le_max_right _ _)
  generalize hVg : ∑ q ∈ H, x q * x q - (∑ q ∈ H, x q) * ((∑ q ∈ H, x q) / H.card) = V at hV0
  have hq : 0 ≤ V / max ((H.card : ℝ) - 1) 1 := div_nonneg hV0 hdp.le
  have hsd : Real.sqrt (V / max ((H.card : ℝ) - 1) 1) + e ≠ 0 := by positivity
  rw [h1, h0, max_real, max_eq_left hcard, div_real _ _ hn, ← EReal.coe_mul, ← EReal.coe_sub, hVg, ← EReal.coe_sub,
    max_real, div_real _ _ hd, max_real, max_eq_left hq, sqrt_real _ hq, ← EReal.coe_add, div_real _ _ hsd,
    ← EReal.coe_mul, ← EReal.coe_mul, ← EReal.coe_sub, div_real _ _ hsd, ← EReal.coe_mul, sub_eq_add_neg b,
    ← EReal.coe_neg, add_comm b, ← add_assoc, ← EReal.coe_add]
  congr 2
  field_simp
  ring

/-- A sum over the groups of a selector that is one at one group and zero elsewhere picks that group's value. -/
theorem pick_group {n : ℕ} (k : Fin n) (sel f : Fin n → EReal) (h1 : sel k = 1) (h0 : ∀ g, g ≠ k → sel g = 0) :
    ∑ g : Fin n, sel g * f g = f k := by
  rw [Finset.sum_eq_single k (fun g _ hg => by rw [h0 g hg, zero_mul]) (fun h => absurd (Finset.mem_univ _) h), h1, one_mul]

/-- A sum of values each multiplied by a zero-one selector is the sum over the rows selected. -/
theorem sum_selected {ι : Type} [Fintype ι] (p : ι → Prop) [DecidablePred p] (f : ι → EReal) :
    ∑ i : ι, (if p i then (1 : EReal) else 0) * f i = ∑ i ∈ Finset.univ.filter p, f i := by
  rw [Finset.sum_filter]
  exact Finset.sum_congr rfl fun i _ => by split <;> simp

end Cert.GraphNorm

end
-- ==== Proof.Payloads.lean ====
/-
  What the two kernels compute inside one block, entry by entry, over the extended reals.
-/
module

public import proofs.«01_k».proof.Proof.Algebra
public import proofs.«01_k».proof.Proof.Gen.KernelIdeal.Frame
public import Idealize.ShloMosaic.Lib.Pointwise
public import Idealize.ShloMosaic.PureOps.Ideal

@[expose] public section

set_option maxRecDepth 16384

noncomputable section

namespace Cert.KernelIdeal.Entry

open Cert.KernelIdeal Cert.KernelIdeal.Gen Cert.GraphNorm Idealize.ShloMosaic

/-- The selector of group `g` at a row whose group word is `b`: one if the word is `g`, else zero. -/
def hot (b : BitVec 32) (g : Fin 64) : EReal := if b = BitVec.ofNat 32 g.val then 1 else 0

/-- A comparison's bit, widened to a word and converted to a float, is one where the words agree and zero elsewhere. -/
theorem bit_float (a b : BitVec 32) :
    (FloatOps.sitofp .f32 (BitVec.setWidth 32 (IntOp.cmpi .eq a b)) : Ideal .f32) = if b = a then 1 else 0 := by
  by_cases h : b = a
  · subst h
    have e : BitVec.setWidth 32 (IntOp.cmpi .eq b b) = 1#32 := by simp [IntOp.cmpi]
    rw [e, if_pos rfl]
    show (((1#32 : BitVec 32).toInt : ℝ) : EReal) = 1
    simp
  · have e : BitVec.setWidth 32 (IntOp.cmpi .eq a b) = 0#32 := by rw [show IntOp.cmpi .eq a b = 0#1 by simp [IntOp.cmpi, beq_false_of_ne (Ne.symm h)]]; rfl
    rw [e, if_neg h]
    show (((0#32 : BitVec 32).toInt : ℝ) : EReal) = 0
    simp

/-- The first kernel's selector matrix at (group, row). -/
theorem stats_hot (v0 : Vec Ideal S1x1x2000 .i32) (g : Fin 64) (j : Fin 2000) :
    k0_pay1 (F := Ideal) v0 (ix2 g j) = hot (v0 (ix3 0 0 j)) g := by
  pointwise [k0_pay1, hot]
  exact bit_float _ _

/-- The first kernel's first output gains, at (group, column), the selected sum of the block's values. -/
theorem stats_sum (v0 : Vec Ideal S1x1x2000 .i32) (v8 : Vec Ideal S2000x512 .f32) (v19 : Vec Ideal S64x512 .f32) (g : Fin 64) (f : Fin 512) :
    k0_pay5 (F := Ideal) v0 v8 v19 (ix2 g f) = v19 (ix2 g f) + ∑ j : Fin 2000, hot (v0 (ix3 0 0 j)) g * v8 (ix2 j f) := by
  simp only [← stats_hot]
  pointwise [k0_pay5]

/-- The first kernel's second output gains, at (group, column), the selected sum of the block's squares. -/
theorem stats_sq (v0 : Vec Ideal S1x1x2000 .i32) (v8 : Vec Ideal S2000x512 .f32) (v19 : Vec Ideal S64x512 .f32) (g : Fin 64) (f : Fin 512) :
    k0_pay6 (F := Ideal) v0 v8 v19 (ix2 g f)
      = v19 (ix2 g f) + ∑ j : Fin 2000, hot (v0 (ix3 0 0 j)) g * (v8 (ix2 j f) * v8 (ix2 j f)) := by
  simp only [← stats_hot]
  pointwise [k0_pay6]

/-- The first kernel's third output gains, in every lane of a group, the number of the block's rows of that group. -/
theorem stats_cnt (v0 : Vec Ideal S1x1x2000 .i32) (v27 : Vec Ideal S64x128 .f32) (g : Fin 64) (l : Fin 128) :
    k0_pay7 (F := Ideal) v0 v27 (ix2 g l) = v27 (ix2 g l) + ∑ j : Fin 2000, hot (v0 (ix3 0 0 j)) g := by
  simp only [← stats_hot]
  pointwise [k0_pay7]

/-- The second kernel's selector matrix at (row, group). -/
theorem norm_hot (v0 : Vec Ideal S1x1x2000 .i32) (g : Fin 64) (j : Fin 2000) :
    k1_pay7 (F := Ideal) v0 (ix2 j g) = hot (v0 (ix3 0 0 j)) g := by
  pointwise [k1_pay7, hot]
  exact bit_float _ _

/-- The second kernel's mean at (group, column). -/
theorem norm_mean (v2 : Vec Ideal S64x512 .f32) (v6 : Vec Ideal S64x1 .f32) (g : Fin 64) (f : Fin 512) :
    k1_pay4 (F := Ideal) v2 v6 (ix2 g f) = kMean (v2 (ix2 g f)) (v6 (ix2 g 0)) := by
  pointwise [k1_pay4, k1_pay2, k1_pay3, kMean]

/-- The second kernel's scale at (group, column). -/
theorem norm_scale (v2 v4 : Vec Ideal S64x512 .f32) (v6 : Vec Ideal S64x1 .f32) (v22 : Vec Ideal S1x512 .f32) (g : Fin 64) (f : Fin 512) :
    k1_pay5 (F := Ideal) v2 v4 v6 v22 (ix2 g f) = kScale (v2 (ix2 g f)) (v4 (ix2 g f)) (v6 (ix2 g 0)) (v22 (ix2 0 f)) (Ideal.ofBits .f32 0x3727C5AC#32) := by
  unfold kScale
  rw [← norm_mean]
  pointwise [k1_pay5, k1_pay2, k1_pay3]

/-- The second kernel's shift at (group, column). -/
theorem norm_shift (v2 v4 : Vec Ideal S64x512 .f32) (v6 : Vec Ideal S64x1 .f32) (v22 v29 : Vec Ideal S1x512 .f32) (g : Fin 64) (f : Fin 512) :
    k1_pay6 (F := Ideal) v2 v4 v6 v22 v29 (ix2 g f)
      = kShift (v2 (ix2 g f)) (v4 (ix2 g f)) (v6 (ix2 g 0)) (v22 (ix2 0 f)) (v29 (ix2 0 f)) (Ideal.ofBits .f32 0x3727C5AC#32) := by
  unfold kShift
  rw [← norm_mean, ← norm_scale]
  pointwise [k1_pay6]

/-- The second kernel's stored value at (row, column): the value times the selected scale, plus the selected shift. -/
theorem norm_out (a b : FVec Ideal S64x512 .f32) (s : FVec Ideal S2000x64 .f32) (x : Vec Ideal S2000x512 .f32) (j : Fin 2000) (f : Fin 512) :
    k1_pay1 (F := Ideal) a b s (constant S2000x512 .f32 0x00000000#32) x (ix2 j f)
      = x (ix2 j f) * (∑ g : Fin 64, s (ix2 j g) * a (ix2 g f)) + ∑ g : Fin 64, s (ix2 j g) * b (ix2 g f) := by
  pointwise [k1_pay1]

end Cert.KernelIdeal.Entry

end
-- ==== Proof.Stats.lean ====
/-
  The first kernel's three outputs: over the whole grid they hold, per group, the sum of its rows, the sum of the squares
  of its rows, and (in every lane) the number of its rows.
-/
module

public import proofs.«01_k».proof.Proof.Payloads
public import Idealize.ShloMosaic.Lib.Pipeline.ValueKit
public import Idealize.ShloMosaic.Lib.Pipeline.Covers

@[expose] public section

set_option maxRecDepth 16384

noncomputable section

namespace Cert.KernelIdeal.Entry

open Cert.KernelIdeal Cert.KernelIdeal.Gen Cert.GraphNorm Idealize.ShloMosaic Idealize.ShloMosaic.TcCoe
open Idealize.ShloMosaic.Pipeline (Dat)

variable (V : (c : Dev nD) → (b : Ref sig .tc) → Buf (Elt Ideal) ((c : Thread nD τ).loc b))

/-- The group word of row `r`, as the blocked batch array holds it: entry `r % 2000` of block `r / 2000`. -/
def word (c : Dev nD) (r : Fin 100000) : BitVec 32 :=
  (V c main_v0 : S50x1x2000.Idx → BitVec 32) (ix3 ⟨r.val / 2000, by omega⟩ 0 ⟨r.val % 2000, by omega⟩)

/-- The value of row `r`, column `f`, as the region finds it. -/
def val (c : Dev nD) (r : Fin 100000) (f : Fin 512) : EReal :=
  (V c main_arg0 : S100000x512.Idx → EReal) (ix2 r f)

/-- The word window moves one block per point. -/
theorem index0_0 (t : Fin cfg0.N) : win0_0.index t = ![t.val, 0, 0] :=
  (by decide +kernel : ∀ t : Fin grid0.N, win0_0.index t = ![t.val, 0, 0]) t

/-- The value window moves one block per point. -/
theorem index0_1 (t : Fin cfg0.N) : win0_1.index t = ![t.val, 0] :=
  (by decide +kernel : ∀ t : Fin grid0.N, win0_1.index t = ![t.val, 0]) t

/-- The word block of point `t`. -/
abbrev wordBlk (c : Dev nD) (t : Fin cfg0.N) : S1x1x2000.Idx → BitVec 32 := iblk0 V c 0 t

/-- The value block of point `t`. -/
abbrev valBlk (c : Dev nD) (t : Fin cfg0.N) : S2000x512.Idx → EReal := iblk0 V c 1 t

/-- The word block of point `t` at place `j` is the word of row `2000 t + j`. -/
theorem block0_word (c : Dev nD) (t : Fin cfg0.N) (j : Fin 2000) (h : t.val * 2000 + j.val < 100000) :
    wordBlk V c t (ix3 0 0 j) = word V c ⟨t.val * 2000 + j.val, h⟩ := by
  unfold word wordBlk
  blk_ext [iblk0, index0_0]

/-- The value block of point `t` at place `j` is the value of row `2000 t + j`. -/
theorem block0_val (c : Dev nD) (t : Fin cfg0.N) (j : Fin 2000) (f : Fin 512) (h : t.val * 2000 + j.val < 100000) :
    valBlk V c t (ix2 j f) = val V c ⟨t.val * 2000 + j.val, h⟩ f := by
  unfold val valBlk
  blk_ext [iblk0, index0_1]

/-- The three zero blocks the first point stores are zero. -/
theorem zero_blocks (g : Fin 64) (f : Fin 512) (l : Fin 128) :
    k0_pay2 (F := Ideal) (ix2 g f) = 0 ∧ k0_pay3 (F := Ideal) (ix2 g f) = 0 ∧ k0_pay4 (F := Ideal) (ix2 g l) = 0 := by
  refine ⟨?_, ?_, ?_⟩
  · pointwise [k0_pay2]
  · pointwise [k0_pay3]
  · pointwise [k0_pay4]

/-- After the last point the first output block holds the groups' sums. -/
theorem last_sum (c : Dev nD) (g : Fin 64) (f : Fin 512) (t : Fin cfg0.N) (ht : t.val + 1 = cfg0.N) :
    (outsAt0 V c t.val t.isLt).1 (ix2 g f) = ∑ r : Fin 100000, hot (word V c r) g * val V c r f := by
  rw [Pipeline.eq_sum_fin_of_reset_step_apply_last (fun n h => fun p : Fin 64 × Fin 512 => (outsAt0 V c n h).1 (ix2 p.1 p.2)) 50
    (fun _ => 0) (fun t p => ∑ j : Fin 2000, hot (wordBlk V c t (ix3 0 0 j)) p.1
      * valBlk V c t (ix2 j p.2))
    (fun t h p => by rw [outsAt0_A V c t h]; frame_out; rw [stats_sum, (zero_blocks _ _ 0).1])
    (fun t h p => by rw [outsAt0_B V c t h]; frame_out; rw [stats_sum])
    (by decide) t ht (g, f)]
  rw [zero_add]
  exact Fin.sum_mul_add_congr fun t j hl => by rw [block0_word V c t j hl, block0_val V c t j f hl]

/-- After the last point the second output block holds the groups' sums of squares. -/
theorem last_sq (c : Dev nD) (g : Fin 64) (f : Fin 512) (t : Fin cfg0.N) (ht : t.val + 1 = cfg0.N) :
    (outsAt0 V c t.val t.isLt).2.1 (ix2 g f)
      = ∑ r : Fin 100000, hot (word V c r) g * (val V c r f * val V c r f) := by
  rw [Pipeline.eq_sum_fin_of_reset_step_apply_last (fun n h => fun p : Fin 64 × Fin 512 => (outsAt0 V c n h).2.1 (ix2 p.1 p.2)) 50
    (fun _ => 0) (fun t p => ∑ j : Fin 2000, hot (wordBlk V c t (ix3 0 0 j)) p.1
      * (valBlk V c t (ix2 j p.2) * valBlk V c t (ix2 j p.2)))
    (fun t h p => by rw [outsAt0_A V c t h]; frame_out; rw [stats_sq, (zero_blocks _ _ 0).2.1])
    (fun t h p => by rw [outsAt0_B V c t h]; frame_out; rw [stats_sq])
    (by decide) t ht (g, f)]
  rw [zero_add]
  exact Fin.sum_mul_add_congr fun t j hl => by rw [block0_word V c t j hl, block0_val V c t j f hl]

/-- After the last point the third output block holds, in every lane, the groups' row counts. -/
theorem last_cnt (c : Dev nD) (g : Fin 64) (l : Fin 128) (t : Fin cfg0.N) (ht : t.val + 1 = cfg0.N) :
    (outsAt0 V c t.val t.isLt).2.2 (ix2 g l) = ∑ r : Fin 100000, hot (word V c r) g := by
  rw [Pipeline.eq_sum_fin_of_reset_step_apply_last (fun n h => fun p : Fin 64 × Fin 128 => (outsAt0 V c n h).2.2 (ix2 p.1 p.2)) 50
    (fun _ => 0) (fun t p => ∑ j : Fin 2000, hot (wordBlk V c t (ix3 0 0 j)) p.1)
    (fun t h p => by rw [outsAt0_A V c t h]; frame_out; rw [stats_cnt, (zero_blocks p.1 0 _).2.2])
    (fun t h p => by rw [outsAt0_B V c t h]; frame_out; rw [stats_cnt])
    (by decide) t ht (g, l)]
  rw [zero_add]
  exact Fin.sum_mul_add_congr fun t j hl => by rw [block0_word V c t j hl]

/-- A point that writes an output block back is the last. -/
theorem last_of_flush (t : Fin cfg0.N) (h : t.val % 50 = 49) : t.val + 1 = cfg0.N := by
  have hN : cfg0.N = 50 := N_0
  have := t.isLt
  omega

/-- The groups' sums, as an array. -/
def sums (c : Dev nD) : S64x512.Idx → EReal := fun i => ∑ r : Fin 100000, hot (word V c r) (i 0) * val V c r (i 1)

/-- The groups' sums of squares, as an array. -/
def squares (c : Dev nD) : S64x512.Idx → EReal :=
  fun i => ∑ r : Fin 100000, hot (word V c r) (i 0) * (val V c r (i 1) * val V c r (i 1))

/-- The groups' row counts, one copy per lane, as an array. -/
def counts (c : Dev nD) : S64x128.Idx → EReal := fun i => ∑ r : Fin 100000, hot (word V c r) (i 0)

/-- The first output block does not move. -/
theorem index0_2 (t : Fin cfg0.N) : win0_2.index t = ![0, 0] :=
  (by decide +kernel : ∀ t : Fin grid0.N, win0_2.index t = ![0, 0]) t

/-- The second output block does not move. -/
theorem index0_3 (t : Fin cfg0.N) : win0_3.index t = ![0, 0] :=
  (by decide +kernel : ∀ t : Fin grid0.N, win0_3.index t = ![0, 0]) t

/-- The third output block does not move. -/
theorem index0_4 (t : Fin cfg0.N) : win0_4.index t = ![0, 0] :=
  (by decide +kernel : ∀ t : Fin grid0.N, win0_4.index t = ![0, 0]) t

/-- The first output array ends as `sums` says. -/
theorem final_sums (c : Dev nD) : (dat0 V c).arrAt 2 cfg0.N = sums V c := by
  refine (dat0 V c).arrAt_eq_of_covers 2 (sums V c) (by decide +kernel) fun t hf y => ?_
  have hl := last_of_flush t ((flush0_2 t).mp hf)
  blk_simp [index0_2]
  rw [after0_2]
  have e : ∀ j : S64x512.Idx, (outsAt0 V c t.val t.isLt).1 j = sums V c j := fun j => by
    rw [← ix2_eta j]; exact last_sum V c (j 0) (j 1) t hl
  refine (e y).trans (congrArg (sums V c) ?_)
  blk_ext [index0_2]

/-- The second output array ends as `squares` says. -/
theorem final_squares (c : Dev nD) : (dat0 V c).arrAt 3 cfg0.N = squares V c := by
  refine (dat0 V c).arrAt_eq_of_covers 3 (squares V c) (by decide +kernel) fun t hf y => ?_
  have hl := last_of_flush t ((flush0_3 t).mp hf)
  blk_simp [index0_3]
  rw [after0_3]
  have e : ∀ j : S64x512.Idx, (outsAt0 V c t.val t.isLt).2.1 j = squares V c j := fun j => by
    rw [← ix2_eta j]; exact last_sq V c (j 0) (j 1) t hl
  refine (e y).trans (congrArg (squares V c) ?_)
  blk_ext [index0_3]

/-- The third output array ends as `counts` says. -/
theorem final_counts (c : Dev nD) : (dat0 V c).arrAt 4 cfg0.N = counts V c := by
  refine (dat0 V c).arrAt_eq_of_covers 4 (counts V c) (by decide +kernel) fun t hf y => ?_
  have hl := last_of_flush t ((flush0_4 t).mp hf)
  blk_simp [index0_4]
  rw [after0_4]
  have e : ∀ j : S64x128.Idx, (outsAt0 V c t.val t.isLt).2.2 j = counts V c j := fun j => by
    rw [← ix2_eta j]; exact last_cnt V c (j 0) (j 1) t hl
  refine (e y).trans (congrArg (counts V c) ?_)
  blk_ext [index0_4]

end Cert.KernelIdeal.Entry

end
-- ==== Proof.Norm.lean ====
/-
  The second kernel's output: entry (row, column) is the row's value times the scale of the row's group, plus the shift of
  the row's group, each picked by the selector from the arrays the kernel is given.
-/
module

public import proofs.«01_k».proof.Proof.Stats

@[expose] public section

set_option maxRecDepth 16384

noncomputable section

namespace Cert.KernelIdeal.Entry

open Cert.KernelIdeal Cert.KernelIdeal.Gen Cert.GraphNorm Idealize.ShloMosaic Idealize.ShloMosaic.TcCoe
open Idealize.ShloMosaic.Pipeline (Dat)

variable (V : (c : Dev nD) → (b : Ref sig .tc) → Buf (Elt Ideal) ((c : Thread nD τ).loc b))

/-- The word window of the second kernel moves one block per point. -/
theorem index1_0 (t : Fin cfg1.N) : win1_0.index t = ![t.val, 0, 0] :=
  (by decide +kernel : ∀ t : Fin grid1.N, win1_0.index t = ![t.val, 0, 0]) t

/-- The value window of the second kernel moves one block per point. -/
theorem index1_1 (t : Fin cfg1.N) : win1_1.index t = ![t.val, 0] :=
  (by decide +kernel : ∀ t : Fin grid1.N, win1_1.index t = ![t.val, 0]) t

/-- The window on the sums does not move. -/
theorem index1_2 (t : Fin cfg1.N) : win1_2.index t = ![0, 0] :=
  (by decide +kernel : ∀ t : Fin grid1.N, win1_2.index t = ![0, 0]) t

/-- The window on the sums of squares does not move. -/
theorem index1_3 (t : Fin cfg1.N) : win1_3.index t = ![0, 0] :=
  (by decide +kernel : ∀ t : Fin grid1.N, win1_3.index t = ![0, 0]) t

/-- The window on the counts does not move. -/
theorem index1_4 (t : Fin cfg1.N) : win1_4.index t = ![0, 0] :=
  (by decide +kernel : ∀ t : Fin grid1.N, win1_4.index t = ![0, 0]) t

/-- The window on the weights does not move. -/
theorem index1_5 (t : Fin cfg1.N) : win1_5.index t = ![0, 0] :=
  (by decide +kernel : ∀ t : Fin grid1.N, win1_5.index t = ![0, 0]) t

/-- The window on the biases does not move. -/
theorem index1_6 (t : Fin cfg1.N) : win1_6.index t = ![0, 0] :=
  (by decide +kernel : ∀ t : Fin grid1.N, win1_6.index t = ![0, 0]) t

/-- The output window moves one block per point. -/
theorem index1_7 (t : Fin cfg1.N) : win1_7.index t = ![t.val, 0] :=
  (by decide +kernel : ∀ t : Fin grid1.N, win1_7.index t = ![t.val, 0]) t

/-- The word block of point `t` at place `j` is the word of row `2000 t + j`. -/
theorem block1_word (c : Dev nD) (t : Fin cfg1.N) (j : Fin 2000) (h : t.val * 2000 + j.val < 100000) :
    (iblk1 V c 0 t : S1x1x2000.Idx → BitVec 32) (ix3 0 0 j) = word V c ⟨t.val * 2000 + j.val, h⟩ := by
  unfold word
  blk_ext [iblk1, index1_0]

/-- The value block of point `t` at place `j` is the value of row `2000 t + j`. -/
theorem block1_val (c : Dev nD) (t : Fin cfg1.N) (j : Fin 2000) (f : Fin 512) (h : t.val * 2000 + j.val < 100000) :
    (iblk1 V c 1 t : S2000x512.Idx → EReal) (ix2 j f) = val V c ⟨t.val * 2000 + j.val, h⟩ f := by
  unfold val
  blk_ext [iblk1, index1_1]

/-- The window on the sums reads the whole array. -/
theorem block1_sums (c : Dev nD) (t : Fin cfg1.N) (g : Fin 64) (f : Fin 512) :
    (iblk1 V c 2 t : S64x512.Idx → EReal) (ix2 g f) = (V c main_v3_0 : S64x512.Idx → EReal) (ix2 g f) := by
  blk_ext [iblk1, index1_2]

/-- The window on the sums of squares reads the whole array. -/
theorem block1_squares (c : Dev nD) (t : Fin cfg1.N) (g : Fin 64) (f : Fin 512) :
    (iblk1 V c 3 t : S64x512.Idx → EReal) (ix2 g f) = (V c main_v3_1 : S64x512.Idx → EReal) (ix2 g f) := by
  blk_ext [iblk1, index1_3]

/-- A load of the first column of a block of lanes reads lane zero. -/
theorem load_column (x : Vec Ideal S64x128 .f32) (g : Fin 64) : View.ld x r1_2 (ix2 g 0) = x (ix2 g 0) := by
  pointwise [r1_2]

/-- The first column of the window on the counts is the first lane of the whole array. -/
theorem block1_counts (c : Dev nD) (t : Fin cfg1.N) (g : Fin 64) :
    View.ld (iblk1 V c 4 t : Vec Ideal S64x128 .f32) r1_2 (ix2 g 0) = (V c main_v3_2 : S64x128.Idx → EReal) (ix2 g 0) := by
  rw [load_column]
  blk_ext [iblk1, index1_4]

/-- The window on the weights reads the whole array. -/
theorem block1_weight (c : Dev nD) (t : Fin cfg1.N) (f : Fin 512) :
    (iblk1 V c 5 t : S1x512.Idx → EReal) (ix2 0 f) = (V c main_v1 : S1x512.Idx → EReal) (ix2 0 f) := by
  blk_ext [iblk1, index1_5]

/-- The window on the biases reads the whole array. -/
theorem block1_bias (c : Dev nD) (t : Fin cfg1.N) (f : Fin 512) :
    (iblk1 V c 6 t : S1x512.Idx → EReal) (ix2 0 f) = (V c main_v2 : S1x512.Idx → EReal) (ix2 0 f) := by
  blk_ext [iblk1, index1_6]

/-- The scale of group `g` in column `f`, from the arrays the second kernel is given. -/
def scaleOf (c : Dev nD) (g : Fin 64) (f : Fin 512) : EReal :=
  kScale ((V c main_v3_0 : S64x512.Idx → EReal) (ix2 g f)) ((V c main_v3_1 : S64x512.Idx → EReal) (ix2 g f))
    ((V c main_v3_2 : S64x128.Idx → EReal) (ix2 g 0)) ((V c main_v1 : S1x512.Idx → EReal) (ix2 0 f))
    (Ideal.ofBits .f32 0x3727C5AC#32)

/-- The shift of group `g` in column `f`, from the arrays the second kernel is given. -/
def shiftOf (c : Dev nD) (g : Fin 64) (f : Fin 512) : EReal :=
  kShift ((V c main_v3_0 : S64x512.Idx → EReal) (ix2 g f)) ((V c main_v3_1 : S64x512.Idx → EReal) (ix2 g f))
    ((V c main_v3_2 : S64x128.Idx → EReal) (ix2 g 0)) ((V c main_v1 : S1x512.Idx → EReal) (ix2 0 f))
    ((V c main_v2 : S1x512.Idx → EReal) (ix2 0 f)) (Ideal.ofBits .f32 0x3727C5AC#32)

/-- The second kernel's entry at row `r`, column `f`. -/
def entry (c : Dev nD) (r : Fin 100000) (f : Fin 512) : EReal :=
  val V c r f * (∑ g : Fin 64, hot (word V c r) g * scaleOf V c g f)
    + ∑ g : Fin 64, hot (word V c r) g * shiftOf V c g f

/-- What the second kernel stores at place `j` of point `t`'s block is the entry of row `2000 t + j`. -/
theorem stored (c : Dev nD) (t : Fin cfg1.N) (j : Fin 2000) (f : Fin 512) (h : t.val * 2000 + j.val < 100000) :
    out1_7 (iblk1 V c 0 t) (iblk1 V c 1 t) (iblk1 V c 2 t) (iblk1 V c 3 t) (iblk1 V c 4 t) (iblk1 V c 5 t) (iblk1 V c 6 t) (ix2 j f)
      = entry V c ⟨t.val * 2000 + j.val, h⟩ f := by
  frame_out
  rw [norm_out]
  simp only [norm_hot, norm_scale, norm_shift]
  rw [block1_word V c t j h, block1_val V c t j f h]
  simp only [block1_sums, block1_squares, block1_counts, block1_weight, block1_bias]
  rfl

/-- The output array ends at the entries. -/
theorem final_out (c : Dev nD) : (dat1 V c).arrAt 7 cfg1.N = (fun i : S100000x512.Idx => entry V c (i 0) (i 1)) := by
  refine (dat1 V c).arrAt_eq_of_covers 7 _ (by decide +kernel) fun t hf y => ?_
  have hN : cfg1.N = 50 := N_1
  have ht : t.val < cfg1.N := t.isLt
  blk_simp [index1_7]
  rw [after1_7]
  have e : ∀ j : S2000x512.Idx, ∀ h : t.val * 2000 + (j 0).val < 100000,
      out1_7 (iblk1 V c 0 t) (iblk1 V c 1 t) (iblk1 V c 2 t) (iblk1 V c 3 t) (iblk1 V c 4 t) (iblk1 V c 5 t) (iblk1 V c 6 t) j
        = entry V c ⟨t.val * 2000 + (j 0).val, h⟩ (j 1) := fun j h => by
    exact (congrArg _ (eq_ix2 j)).trans (stored V c t (j 0) (j 1) h)
  have hy : (y 0).val < 2000 := (y 0).isLt
  refine (e y (by omega)).trans (congrArg₂ (entry V c) ?_ ?_)
  · apply Fin.ext
    blk_simp [index1_7]
  · apply Fin.ext
    blk_simp [index1_7]

end Cert.KernelIdeal.Entry

end
-- ==== Proof.KernelRun.lean ====
/-
  The kernel program's run: its result is the second kernel's entries, in terms of the four arguments alone.
-/
module

public import proofs.«01_k».proof.Proof.Norm

@[expose] public section

set_option maxRecDepth 16384

noncomputable section

namespace Cert.KernelIdeal.Whole

open Cert.KernelIdeal Cert.KernelIdeal.Gen Cert.KernelIdeal.Entry Cert.GraphNorm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The four arguments on device `c`, by their coordinates. -/
abbrev argX (c : Dev nD) (r : Fin 100000) (f : Fin 512) : EReal :=
  (m ((c.tc : Thread nD τ).loc main_arg0) : S100000x512.Idx → EReal) (ix2 r f)
/-- The group words. -/
abbrev argB (c : Dev nD) (r : Fin 100000) : BitVec 32 :=
  (m ((c.tc : Thread nD τ).loc main_arg1) : S100000.Idx → BitVec 32) (ix1 r)
/-- The weights. -/
abbrev argW (c : Dev nD) (f : Fin 512) : EReal :=
  (m ((c.tc : Thread nD τ).loc main_arg2) : S512.Idx → EReal) (ix1 f)
/-- The biases. -/
abbrev argC (c : Dev nD) (f : Fin 512) : EReal :=
  (m ((c.tc : Thread nD τ).loc main_arg3) : S512.Idx → EReal) (ix1 f)

/-- After the opening reshapes the blocked batch array is the batch argument, reshaped. -/
theorem V1_word (c : Dev nD) : (V1 m ρ c main_v0 : S50x1x2000.Idx → BitVec 32)
    = shapeCast S50x1x2000 (m ((c.tc : Thread nD τ).loc main_arg1) : S100000.Idx → BitVec 32) shapeCasts_S100000_S50x1x2000 := by
  show StableHlo.after hostOps0 (W0 m ρ c) (Proc.devRef .tc main_v0) = _
  after_results_simp
  rfl

/-- After the opening reshapes the weight row is the weight argument, reshaped. -/
theorem V1_weight (c : Dev nD) : (V1 m ρ c main_v1 : S1x512.Idx → EReal)
    = shapeCast S1x512 (m ((c.tc : Thread nD τ).loc main_arg2) : S512.Idx → EReal) shapeCasts_S512_S1x512 := by
  show StableHlo.after hostOps0 (W0 m ρ c) (Proc.devRef .tc main_v1) = _
  after_results_simp
  rfl

/-- After the opening reshapes the bias row is the bias argument, reshaped. -/
theorem V1_bias (c : Dev nD) : (V1 m ρ c main_v2 : S1x512.Idx → EReal)
    = shapeCast S1x512 (m ((c.tc : Thread nD τ).loc main_arg3) : S512.Idx → EReal) shapeCasts_S512_S1x512 := by
  show StableHlo.after hostOps0 (W0 m ρ c) (Proc.devRef .tc main_v2) = _
  after_results_simp
  rfl

/-- The word the kernels read for row `r` is the batch argument's. -/
theorem word_V1 (c : Dev nD) (r : Fin 100000) : word (V1 m ρ) c r = argB m c r := by
  unfold word
  rw [V1_word]
  pointwise []

/-- The weight the second kernel reads in column `f`. -/
theorem weight_V1 (c : Dev nD) (f : Fin 512) : (V1 m ρ c main_v1 : S1x512.Idx → EReal) (ix2 0 f) = argW m c f := by
  rw [V1_weight]
  pointwise []

/-- The bias the second kernel reads in column `f`. -/
theorem bias_V1 (c : Dev nD) (f : Fin 512) : (V1 m ρ c main_v2 : S1x512.Idx → EReal) (ix2 0 f) = argC m c f := by
  rw [V1_bias]
  pointwise []

/-- The value the first kernel reads at row `r`, column `f`. -/
theorem val_V1 (c : Dev nD) (r : Fin 100000) (f : Fin 512) : val (V1 m ρ) c r f = argX m c r f :=
  congrArg (fun B : S100000x512.Idx → EReal => B (ix2 r f)) (W1_args m ρ c main_arg0 (by decide))

/-- The second kernel finds the words as the first did. -/
theorem word_V2 (c : Dev nD) (r : Fin 100000) : word (V2 m ρ) c r = argB m c r :=
  (congrArg (fun B : S50x1x2000.Idx → BitVec 32 => B (ix3 ⟨r.val / 2000, by omega⟩ 0 ⟨r.val % 2000, by omega⟩))
    (W2_of m ρ c main_v0 (by decide))).trans (word_V1 m ρ c r)

/-- The second kernel finds the values as the first did. -/
theorem val_V2 (c : Dev nD) (r : Fin 100000) (f : Fin 512) : val (V2 m ρ) c r f = argX m c r f :=
  congrArg (fun B : S100000x512.Idx → EReal => B (ix2 r f)) (W2_args m ρ c main_arg0 (by decide))

/-- The second kernel finds the weights. -/
theorem weight_V2 (c : Dev nD) (f : Fin 512) : (V2 m ρ c main_v1 : S1x512.Idx → EReal) (ix2 0 f) = argW m c f :=
  (congrArg (fun B : S1x512.Idx → EReal => B (ix2 0 f)) (W2_of m ρ c main_v1 (by decide))).trans (weight_V1 m ρ c f)

/-- The second kernel finds the biases. -/
theorem bias_V2 (c : Dev nD) (f : Fin 512) : (V2 m ρ c main_v2 : S1x512.Idx → EReal) (ix2 0 f) = argC m c f :=
  (congrArg (fun B : S1x512.Idx → EReal => B (ix2 0 f)) (W2_of m ρ c main_v2 (by decide))).trans (bias_V1 m ρ c f)

/-- A group's sum in a column, from the arguments. -/
def gSum (c : Dev nD) (g : Fin 64) (f : Fin 512) : EReal := ∑ r : Fin 100000, hot (argB m c r) g * argX m c r f

/-- A group's sum of squares in a column, from the arguments. -/
def gSq (c : Dev nD) (g : Fin 64) (f : Fin 512) : EReal :=
  ∑ r : Fin 100000, hot (argB m c r) g * (argX m c r f * argX m c r f)

/-- A group's row count, from the arguments. -/
def gCnt (c : Dev nD) (g : Fin 64) : EReal := ∑ r : Fin 100000, hot (argB m c r) g

/-- The second kernel is given the groups' sums. -/
theorem sums_V2 (c : Dev nD) (g : Fin 64) (f : Fin 512) :
    (V2 m ρ c main_v3_0 : S64x512.Idx → EReal) (ix2 g f) = gSum m c g f :=
  (congrArg (fun B : S64x512.Idx → EReal => B (ix2 g f)) ((W2_arr m ρ c 2).trans (final_sums (V1 m ρ) c))).trans
    (Finset.sum_congr rfl fun r _ => congrArg₂ (fun a b => hot a g * b) (word_V1 m ρ c r) (val_V1 m ρ c r f))

/-- The second kernel is given the groups' sums of squares. -/
theorem squares_V2 (c : Dev nD) (g : Fin 64) (f : Fin 512) :
    (V2 m ρ c main_v3_1 : S64x512.Idx → EReal) (ix2 g f) = gSq m c g f :=
  (congrArg (fun B : S64x512.Idx → EReal => B (ix2 g f)) ((W2_arr m ρ c 3).trans (final_squares (V1 m ρ) c))).trans
    (Finset.sum_congr rfl fun r _ => congrArg₂ (fun a b => hot a g * (b * b)) (word_V1 m ρ c r) (val_V1 m ρ c r f))

/-- The second kernel is given the groups' counts. -/
theorem counts_V2 (c : Dev nD) (g : Fin 64) :
    (V2 m ρ c main_v3_2 : S64x128.Idx → EReal) (ix2 g 0) = gCnt m c g :=
  (congrArg (fun B : S64x128.Idx → EReal => B (ix2 g 0)) ((W2_arr m ρ c 4).trans (final_counts (V1 m ρ) c))).trans
    (Finset.sum_congr rfl fun r _ => congrArg (fun a => hot a g) (word_V1 m ρ c r))

/-- The kernel program's entry at row `r`, column `f`, from the arguments. -/
def outEntry (c : Dev nD) (r : Fin 100000) (f : Fin 512) : EReal :=
  argX m c r f * (∑ g : Fin 64, hot (argB m c r) g
      * kScale (gSum m c g f) (gSq m c g f) (gCnt m c g) (argW m c f) (Ideal.ofBits .f32 0x3727C5AC#32))
    + ∑ g : Fin 64, hot (argB m c r) g
      * kShift (gSum m c g f) (gSq m c g f) (gCnt m c g) (argW m c f) (argC m c f) (Ideal.ofBits .f32 0x3727C5AC#32)

/-- The scale of a group, from the arguments. -/
theorem scale_V2 (c : Dev nD) (g : Fin 64) (f : Fin 512) : scaleOf (V2 m ρ) c g f
    = kScale (gSum m c g f) (gSq m c g f) (gCnt m c g) (argW m c f) (Ideal.ofBits .f32 0x3727C5AC#32) := by
  unfold scaleOf
  rw [sums_V2 m ρ c g f, squares_V2 m ρ c g f, counts_V2 m ρ c g, weight_V2 m ρ c f]

/-- The shift of a group, from the arguments. -/
theorem shift_V2 (c : Dev nD) (g : Fin 64) (f : Fin 512) : shiftOf (V2 m ρ) c g f
    = kShift (gSum m c g f) (gSq m c g f) (gCnt m c g) (argW m c f) (argC m c f) (Ideal.ofBits .f32 0x3727C5AC#32) := by
  unfold shiftOf
  rw [sums_V2 m ρ c g f, squares_V2 m ρ c g f, counts_V2 m ρ c g, weight_V2 m ρ c f, bias_V2 m ρ c f]

/-- The second kernel's entries, from the arguments. -/
theorem entry_V2 (c : Dev nD) (r : Fin 100000) (f : Fin 512) : entry (V2 m ρ) c r f = outEntry m c r f := by
  unfold entry outEntry
  rw [word_V2, val_V2]
  simp only [scale_V2, shift_V2]

/-- The result array as the run leaves it. -/
theorem result (c : Dev nD) : W3 m ρ c (Proc.devRef .tc main_v4)
    = (fun i : S100000x512.Idx => outEntry m c (i 0) (i 1)) :=
  ((W3_arr m ρ c 7).trans (final_out (V2 m ρ) c)).trans (funext fun i => entry_V2 m ρ c (i 0) (i 1))

set_option backward.isDefEq.respectTransparency.types false in
/-- Every run of the kernel program ends with the result at the entries and the arguments as they were. -/
theorem run : θ_run defs (onTc (τ := τ) (main (F := Ideal))) ⟨m, fun _ => 0, ρ⟩ (fun r => ∀ c : Dev nD,
      r.2.mem ((c.tc : Thread nD τ).loc main_v4) = (fun i : S100000x512.Idx => outEntry m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v4 (by decide))).trans (result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Whole

end
-- ==== Proof.PreFacts.lean ====
/-
  What the precondition says of the arguments: every group word is below 64, every value and every weight is a real.
-/
module

public import proofs.«01_k».proof.Proof.KernelRun
public import proofs.«01_k».proof.Proof.Gen.Pre_pre
public import Idealize.ShloMosaic.Lib.ReduceAll
public import Idealize.ShloMosaic.Lib.WordCmp
public import Idealize.ShloMosaic.PureOps.Ideal

@[expose] public section

set_option maxRecDepth 16384

noncomputable section

namespace Cert.PreFacts

open Idealize.ShloMosaic Cert.Pre_pre

/-- The bits of the float infinity are the top of the extended reals. -/
theorem inf_top : Ideal.ofBits .f32 0x7F800000#32 = (⊤ : EReal) := by
  simp [Ideal.ofBits, Ideal.ieee]

/-- An extended real whose absolute value compares below infinity is a real. -/
theorem real_of_bit (x : EReal) (h : Ideal.cmp .olt (max x (-x)) (Ideal.ofBits .f32 0x7F800000#32) = 1#1) :
    ∃ a : ℝ, x = (a : EReal) := by
  rw [inf_top] at h
  have hlt : max x (-x) < ⊤ := by
    by_contra hn
    simp [Ideal.cmp, hn] at h
  induction x with
  | bot => simp at hlt
  | coe a => exact ⟨a, rfl⟩
  | top => simp at hlt

/-- A word that compares at least zero and below 64, both signed, is below 64 as a natural number. -/
theorem small_of_bits (b : BitVec 32) (h0 : IntOp.cmpi .sge b 0#32 = 1#1) (h1 : IntOp.cmpi .slt b 64#32 = 1#1) : b.toNat < 64 := by
  have e0 : (0#32 : BitVec 32).toInt ≤ b.toInt := by
    by_contra hn
    rw [WordCmp.cmpi_sge_eq, decide_eq_false hn] at h0
    exact absurd h0 (by decide)
  have e1 : b.toInt < (64#32 : BitVec 32).toInt := by
    by_contra hn
    rw [WordCmp.cmpi_slt_eq, decide_eq_false hn] at h1
    exact absurd h1 (by decide)
  have z0 : (0#32 : BitVec 32).toInt = 0 := by decide
  have z1 : (64#32 : BitVec 32).toInt = 64 := by decide
  rw [z0] at e0
  rw [z1] at e1
  have hh := WordCmp.toInt_eq_toNat_of_lt_half ((WordCmp.toInt_nonneg_iff_lt_half b).1 e0)
  omega

/-- The precondition's one result has a single place. -/
instance : Subsingleton S_.Idx := ⟨fun a b => funext fun i => Fin.elim0 i⟩

/-- The precondition, unpacked. -/
theorem unpack (x : S100000x512.Idx → EReal) (b : S100000.Idx → BitVec 32) (w c : S512.Idx → EReal)
    (h : Cert.Pre_pre.fn (F := Ideal) x b w c = fun _ => 1#1) :
    (∀ i, (b i).toNat < 64) ∧ (∀ i, ∃ a : ℝ, x i = (a : EReal)) ∧ ∀ i, ∃ a : ℝ, w i = (a : EReal) := by
  have h0 := congrFun h (fun a => Fin.elim0 a)
  obtain ⟨h1, hw⟩ := IntOp.andi_eq_one.1 h0
  obtain ⟨h2, hx⟩ := IntOp.andi_eq_one.1 h1
  obtain ⟨hge, hlt⟩ := IntOp.andi_eq_one.1 h2
  exact ⟨fun i => small_of_bits _ (Host.reduce_andi_all _ _ _ _ _ hge i) (Host.reduce_andi_all _ _ _ _ _ hlt i),
    fun i => real_of_bit _ (Host.reduce_andi_all _ _ _ _ _ hx i),
    fun i => real_of_bit _ (Host.reduce_andi_all _ _ _ _ _ hw i)⟩

end Cert.PreFacts

end
-- ==== Proof.RefFrame.lean ====
/-
  The reference program leaves its arguments and every semaphore counter as it found them.
-/
module

public import proofs.«01_k».proof.Proof.Gen.ReferenceIdeal.Run
public import Idealize.ShloMosaic.Lib.Quiescent
public import Idealize.ShloMosaic.PureOps.Ideal

@[expose] public section

noncomputable section

namespace Cert.ReferenceIdeal.Quiet

open Cert.ReferenceIdeal Idealize.ShloMosaic Idealize.ShloMosaic.TcCoe Idealize.SL.Sem

/-- From any memory whose counters are zero, the reference ends with its four arguments as they were and with every
    counter at zero (it declares no semaphore). -/
theorem quiet (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems rfl r.2⟩) (Value.run m g)

end Cert.ReferenceIdeal.Quiet

end
-- ==== Proof.Indexed.lean ====
/-
  The reference's indexed operations, read at one entry: a sum scattered over groups is the sum over the rows of the
  group; a table of groups gathered by row is the table's row of the group.
-/
module

public import proofs.«01_k».proof.Proof.PreFacts
public import proofs.«01_k».proof.Proof.RefFrame
public import Idealize.ShloMosaic.Lib.Routing.Ops
public import Idealize.ShloMosaic.Lib.Routing.OpsPair
public import Idealize.ShloMosaic.Lib.Pointwise

@[expose] public section

set_option maxRecDepth 16384

noncomputable section

namespace Cert.ReferenceIdeal.Entry

open Cert.ReferenceIdeal Cert.ReferenceIdeal.Gen Idealize.ShloMosaic

/-- One row's count lands at group `g` exactly when the row's word, read signed, is `g`. -/
theorem count_lands (idx : S100000x1.Idx → BitVec 32) (r : Fin 100000) (g : Fin 64) :
    scatter_S64_S100000x1_S100000_n_0_0_1.resultIdx? (ix1 r) idx = some (ix1 g)
      ↔ (idx (ix2 r 0)).toInt = (g.val : Int) := by
  have hs : scatter_S64_S100000x1_S100000_n_0_0_1.start (ix1 r) idx 0 = (idx (ix2 r 0)).toInt := by
    unfold ScatterDims.start
    rw [dif_pos (by decide)]
    refine congrArg (fun i => (idx i).toInt) (funext fun a => Fin.ext ?_)
    match a with
    | ⟨0, _⟩ => rfl
    | ⟨1, _⟩ => rfl
  have hw : scatter_S64_S100000x1_S100000_n_0_0_1.window (ix1 r) 0 = 0 := rfl
  rw [Routing.resultIdx?_eq_some]
  constructor
  · intro h
    have h0 := h 0
    rw [hs, hw] at h0
    simpa using h0
  · intro h a
    match a with
    | ⟨0, _⟩ =>
      refine (congrArg₂ (fun (x : Int) (y : Nat) => x + (y : Int)) hs hw).trans ?_
      simpa using h

/-- One row's value in column `f` lands at group `g`, column `z`, exactly when the row's word, read signed, is `g` and the
    columns agree. -/
theorem row_lands (idx : S100000x1.Idx → BitVec 32) (r : Fin 100000) (f : Fin 512) (g : Fin 64) (z : Fin 512) :
    scatter_S64x512_S100000x1_S100000x512_1_0_0_1.resultIdx? (ix2 r f) idx = some (ix2 g z)
      ↔ (idx (ix2 r 0)).toInt = (g.val : Int) ∧ f = z := by
  have hs : scatter_S64x512_S100000x1_S100000x512_1_0_0_1.start (ix2 r f) idx 0 = (idx (ix2 r 0)).toInt := by
    unfold ScatterDims.start
    rw [dif_pos (by decide)]
    refine congrArg (fun i => (idx i).toInt) (funext fun a => Fin.ext ?_)
    match a with
    | ⟨0, _⟩ => rfl
    | ⟨1, _⟩ => rfl
  have hs1 : scatter_S64x512_S100000x1_S100000x512_1_0_0_1.start (ix2 r f) idx 1 = 0 := rfl
  have hw : scatter_S64x512_S100000x1_S100000x512_1_0_0_1.window (ix2 r f) 0 = 0 := rfl
  have hw1 : scatter_S64x512_S100000x1_S100000x512_1_0_0_1.window (ix2 r f) 1 = f.val := rfl
  rw [Routing.resultIdx?_eq_some]
  constructor
  · intro h
    have h0 := h 0
    have h1 := h 1
    rw [hs, hw] at h0
    rw [hs1, hw1] at h1
    refine ⟨by simpa using h0, Fin.ext ?_⟩
    have h1' : (0 : Int) + (f.val : Int) = (z.val : Int) := h1
    omega
  · rintro ⟨h, rfl⟩ a
    match a with
    | ⟨0, _⟩ =>
      refine (congrArg₂ (fun (x : Int) (y : Nat) => x + (y : Int)) hs hw).trans ?_
      simpa using h
    | ⟨1, _⟩ =>
      refine (congrArg₂ (fun (x : Int) (y : Nat) => x + (y : Int)) hs1 hw1).trans ?_
      exact zero_add _

/-- The counts scattered over the groups: entry `g` is the starting entry plus the updates of the rows whose word is `g`. -/
theorem count_sum (d0 : S64.Idx → EReal) (idx : S100000x1.Idx → BitVec 32) (u : S100000.Idx → EReal) (g : Fin 64) :
    Host.scatterAdd (F := Ideal) (φ := .f32) scatter_S64_S100000x1_S100000_n_0_0_1 d0 idx u (ix1 g)
      = d0 (ix1 g) + ∑ r : Fin 100000, if (idx (ix2 r 0)).toInt = (g.val : Int) then u (ix1 r) else 0 := by
  refine congrArg (fun z : EReal => d0 (ix1 g) + z) ?_
  rw [Finset.sum_filter, sum_idx1]
  exact Finset.sum_congr rfl fun r _ => if_congr (count_lands idx r g) rfl rfl

/-- The rows scattered over the groups: entry `(g, f)` is the starting entry plus, in column `f`, the updates of the rows
    whose word is `g`. -/
theorem row_sum (d0 : S64x512.Idx → EReal) (idx : S100000x1.Idx → BitVec 32) (u : S100000x512.Idx → EReal)
    (g : Fin 64) (f : Fin 512) :
    Host.scatterAdd (F := Ideal) (φ := .f32) scatter_S64x512_S100000x1_S100000x512_1_0_0_1 d0 idx u (ix2 g f)
      = d0 (ix2 g f) + ∑ r : Fin 100000, if (idx (ix2 r 0)).toInt = (g.val : Int) then u (ix2 r f) else 0 := by
  refine congrArg (fun z : EReal => d0 (ix2 g f) + z) ?_
  rw [Finset.sum_filter, sum_idx2]
  refine Finset.sum_congr rfl fun r _ => ?_
  rw [Finset.sum_eq_single f]
  · refine if_congr ((row_lands idx r f g f).trans ⟨fun h => h.1, fun h => ⟨h, rfl⟩⟩) rfl rfl
  · intro y _ hy
    exact if_neg fun h => hy ((row_lands idx r y g f).1 h).2
  · exact fun h => absurd (Finset.mem_univ _) h

/-- A table of groups gathered by row: where row `r`'s word is group `g`, the result's entry `(r, f)` is the table's
    `(g, f)`. -/
theorem take_row (x : S64x512.Idx → EReal) (idx : S100000x1.Idx → BitVec 32) (r : Fin 100000) (f : Fin 512) (g : Fin 64)
    (h : idx (ix2 r 0) = BitVec.ofNat 32 g.val) :
    Host.gather gather_S64x512_S100000x1_S100000x512_1_0_n_n_0_1_1512 x idx (ix2 r f) = x (ix2 g f) :=
  Routing.gather_row _ rfl rfl rfl rfl rfl x idx r f g h (by decide)

end Cert.ReferenceIdeal.Entry

end
-- ==== Proof.RefValue.lean ====
/-
  The reference's result, read at one entry: weight times the centred value over the deviation of the row's group, plus
  bias, each of the group's quantities a sum over the rows of that group.
-/
module

public import proofs.«01_k».proof.Proof.Indexed

@[expose] public section

set_option maxRecDepth 16384

noncomputable section

namespace Cert.ReferenceIdeal.Entry

open Cert.ReferenceIdeal Cert.ReferenceIdeal.Gen Cert.GraphNorm Idealize.ShloMosaic Idealize.ShloMosaic.TcCoe

variable (x : FVec Ideal S100000x512 .f32) (b : IVec S100000 32) (w c : FVec Ideal S512 .f32)

/-- The group words as one column. -/
def words : IVec S100000x1 32 := broadcastInDim S100000x1 ![0] bcast_S100000_S100000x1_0 b

/-- The group words as one column, a negative one counted from the end. -/
def wrapped : IVec S100000x1 32 :=
  broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 64#32))) b)

/-- The groups' row counts. -/
def count : FVec Ideal S64 .f32 :=
  Host.scatterAdd scatter_S64_S100000x1_S100000_n_0_0_1 (broadcastInDim S64 ![] bcast_S_S64 (constant S_ .f32 0x00000000#32))
    (words b) (broadcastInDim S100000 ![] bcast_S_S100000 (constant S_ .f32 0x3F800000#32))

/-- The groups' sums of an array of rows. -/
def total (y : FVec Ideal S100000x512 .f32) : FVec Ideal S64x512 .f32 :=
  Host.scatterAdd scatter_S64x512_S100000x1_S100000x512_1_0_0_1
    (broadcastInDim S64x512 ![] bcast_S_S64x512 (constant S_ .f32 0x00000000#32)) (words b) y

/-- A number per group, repeated over the columns. -/
def spread (n : FVec Ideal S64 .f32) : FVec Ideal S64x512 .f32 :=
  broadcastInDim S64x512 ![0, 1] bcast_S64x1_S64x512_0_1 (broadcastInDim S64x1 ![0] bcast_S64_S64x1_0 n)

/-- A table of groups gathered by row. -/
def take (t : FVec Ideal S64x512 .f32) : FVec Ideal S100000x512 .f32 :=
  Host.gather gather_S64x512_S100000x1_S100000x512_1_0_n_n_0_1_1512 t (wrapped b)

/-- The groups' means. -/
def mean : FVec Ideal S64x512 .f32 := Host.divf (total b x) (spread (count b))

/-- The rows minus the means of their groups. -/
def centred : FVec Ideal S100000x512 .f32 := subf x (take b (mean x b))

/-- The groups' divisors for the variance. -/
def divisor : FVec Ideal S64 .f32 :=
  maximumf (subf (count b) (broadcastInDim S64 ![] bcast_S_S64 (constant S_ .f32 0x3F800000#32)))
    (broadcastInDim S64 ![] bcast_S_S64 (constant S_ .f32 0x3F800000#32))

/-- The groups' deviations. -/
def deviation : FVec Ideal S64x512 .f32 :=
  addf (Host.sqrt (Host.divf (total b (mulf (centred x b) (centred x b))) (spread (divisor b))))
    (broadcastInDim S64x512 ![] bcast_S_S64x512 (constant S_ .f32 0x3727C5AC#32))

/-- A number per column, repeated over the rows. -/
def rows (y : FVec Ideal S512 .f32) : FVec Ideal S100000x512 .f32 :=
  broadcastInDim S100000x512 ![0, 1] bcast_S1x512_S100000x512_0_1 (broadcastInDim S1x512 ![1] bcast_S512_S1x512_1 y)

/-- The reference's result. -/
def out : FVec Ideal S100000x512 .f32 :=
  addf (mulf (rows w) (Host.divf (centred x b) (take b (deviation x b)))) (rows c)

/-- The reference's result as its run leaves it is `out` of the arguments. -/
theorem res_eq_out (m : (ℓ : Loc nD τ sig) → Buf (Elt Ideal) ℓ) (d : Dev nD) :
    Value.res_main_v45 m d = out (m ((d.tc : Thread nD τ).loc main_arg0)) (m ((d.tc : Thread nD τ).loc main_arg1))
      (m ((d.tc : Thread nD τ).loc main_arg2)) (m ((d.tc : Thread nD τ).loc main_arg3)) := rfl

/-- The column of words at a row. -/
theorem words_at (r : Fin 100000) : words b (ix2 r 0) = b (ix1 r) := by
  pointwise [words]

/-- The wrapped column of words at a row whose word is small: the word. -/
theorem wrapped_at (r : Fin 100000) (h : (b (ix1 r)).toNat < 64) : wrapped b (ix2 r 0) = b (ix1 r) := by
  pointwise [wrapped]
  exact Routing.wrap_of_lt _ _ (lt_trans h (by decide))

/-- A word read signed is a group's number exactly when it is the group's word. -/
theorem signed_iff (v : BitVec 32) (g : Fin 64) : v.toInt = (g.val : Int) ↔ v = BitVec.ofNat 32 g.val := by
  have hg : (BitVec.ofNat 32 g.val).toInt = (g.val : Int) :=
    StableHlo.Predicate.toInt_ofNat_small _ (lt_trans g.isLt (by decide))
  rw [← hg]
  exact BitVec.toInt_inj

/-- The rows of group `g`. -/
def members (g : Fin 64) : Finset (Fin 100000) := Finset.univ.filter fun q => b (ix1 q) = BitVec.ofNat 32 g.val

/-- A group's count is the number of its rows. -/
theorem count_at (g : Fin 64) : count b (ix1 g) = ∑ _q ∈ members b g, (1 : EReal) := by
  unfold count members
  rw [count_sum, Finset.sum_filter]
  have h0 : broadcastInDim S64 ![] bcast_S_S64 (constant (F := Ideal) S_ .f32 0x00000000#32) (ix1 g) = 0 := by
    pointwise []
  rw [h0, zero_add]
  refine Finset.sum_congr rfl fun r _ => ?_
  have h1 : broadcastInDim S100000 ![] bcast_S_S100000 (constant (F := Ideal) S_ .f32 0x3F800000#32) (ix1 r) = 1 := by
    pointwise []
  rw [words_at, h1]
  exact if_congr (signed_iff _ _) rfl rfl

/-- A group's total in a column is the sum over its rows. -/
theorem total_at (y : FVec Ideal S100000x512 .f32) (g : Fin 64) (f : Fin 512) :
    total b y (ix2 g f) = ∑ q ∈ members b g, y (ix2 q f) := by
  unfold total members
  rw [row_sum, Finset.sum_filter]
  have h0 : broadcastInDim S64x512 ![] bcast_S_S64x512 (constant (F := Ideal) S_ .f32 0x00000000#32) (ix2 g f) = 0 := by
    pointwise []
  rw [h0, zero_add]
  refine Finset.sum_congr rfl fun r _ => ?_
  rw [words_at]
  exact if_congr (signed_iff _ _) rfl rfl

/-- A repeated number, at a group and column. -/
theorem spread_at (n : FVec Ideal S64 .f32) (g : Fin 64) (f : Fin 512) : spread n (ix2 g f) = n (ix1 g) := by
  pointwise [spread]

/-- A column's number, at a row and column. -/
theorem rows_at (y : FVec Ideal S512 .f32) (r : Fin 100000) (f : Fin 512) : rows y (ix2 r f) = y (ix1 f) := by
  pointwise [rows]

/-- A gathered table at a row of group `g`. -/
theorem take_at (t : FVec Ideal S64x512 .f32) (r : Fin 100000) (f : Fin 512) (g : Fin 64)
    (h : b (ix1 r) = BitVec.ofNat 32 g.val) : take b t (ix2 r f) = t (ix2 g f) := by
  unfold take
  refine take_row t (wrapped b) r f g ((wrapped_at b r ?_).trans h)
  rw [h, BitVec.toNat_ofNat]
  have := g.isLt
  omega

/-- A group's mean in a column. -/
theorem mean_at (g : Fin 64) (f : Fin 512) :
    mean x b (ix2 g f) = Ideal.div (∑ q ∈ members b g, x (ix2 q f)) (∑ _q ∈ members b g, (1 : EReal)) := by
  rw [← total_at, ← count_at, ← spread_at (count b) g f]
  pointwise [mean]

/-- A centred value at a row of group `g`. -/
theorem centred_at (r : Fin 100000) (f : Fin 512) (g : Fin 64) (h : b (ix1 r) = BitVec.ofNat 32 g.val) :
    centred x b (ix2 r f) = x (ix2 r f) - mean x b (ix2 g f) := by
  rw [← take_at b (mean x b) r f g h]
  rfl

/-- A group's divisor for the variance. -/
theorem divisor_at (g : Fin 64) : divisor b (ix1 g) = max (count b (ix1 g) - 1) 1 := by
  pointwise [divisor]

/-- A group's deviation in a column. -/
theorem deviation_at (g : Fin 64) (f : Fin 512) :
    deviation x b (ix2 g f)
      = Ideal.sqrt (Ideal.div (∑ q ∈ members b g, (x (ix2 q f) - mean x b (ix2 g f)) * (x (ix2 q f) - mean x b (ix2 g f)))
          (max (count b (ix1 g) - 1) 1)) + Ideal.ofBits .f32 0x3727C5AC#32 := by
  have ht : total b (mulf (centred x b) (centred x b)) (ix2 g f)
      = ∑ q ∈ members b g, (x (ix2 q f) - mean x b (ix2 g f)) * (x (ix2 q f) - mean x b (ix2 g f)) := by
    rw [total_at]
    refine Finset.sum_congr rfl fun q hq => ?_
    rw [← centred_at x b q f g (Finset.mem_filter.1 hq).2]
    rfl
  rw [← ht, ← divisor_at, ← spread_at (divisor b) g f]
  pointwise [deviation]

/-- The reference's entry at a row of group `g`. -/
theorem out_at (r : Fin 100000) (f : Fin 512) (g : Fin 64) (h : b (ix1 r) = BitVec.ofNat 32 g.val) :
    out x b w c (ix2 r f)
      = rEntry (x (ix2 r f)) (∑ q ∈ members b g, x (ix2 q f))
          (∑ q ∈ members b g, (x (ix2 q f) - Ideal.div (∑ p ∈ members b g, x (ix2 p f)) (∑ _p ∈ members b g, (1 : EReal)))
            * (x (ix2 q f) - Ideal.div (∑ p ∈ members b g, x (ix2 p f)) (∑ _p ∈ members b g, (1 : EReal))))
          (∑ _q ∈ members b g, (1 : EReal)) (w (ix1 f)) (c (ix1 f)) (Ideal.ofBits .f32 0x3727C5AC#32) := by
  unfold rEntry
  rw [← mean_at, ← count_at, ← deviation_at, ← centred_at x b r f g h, ← take_at b (deviation x b) r f g h, ← rows_at w r f,
    ← rows_at c r f]
  pointwise [out]

end Cert.ReferenceIdeal.Entry

end
-- ==== Proof.Equation.lean ====
/-
  The kernel program's entry is the reference's: the selector picks the row's own group, the selected sums are the sums over
  that group's rows, and over one group the two forms of the entry agree.
-/
module

public import proofs.«01_k».proof.Proof.RefValue

@[expose] public section

set_option maxRecDepth 16384

noncomputable section

namespace Cert.GraphNorm

open Idealize.ShloMosaic Idealize.ShloMosaic.TcCoe Cert.KernelIdeal Cert.KernelIdeal.Entry Cert.KernelIdeal.Whole
open Cert.ReferenceIdeal.Entry (members)

variable (m : (ℓ : Loc nD τ sig) → Buf (Elt Ideal) ℓ) (d : Dev nD)

/-- The first argument on device `d`: the values. -/
abbrev X : S100000x512.Idx → EReal := m ((d.tc : Thread nD τ).loc main_arg0)
/-- The second argument: the group words. -/
abbrev B : S100000.Idx → BitVec 32 := m ((d.tc : Thread nD τ).loc main_arg1)
/-- The third argument: the weights. -/
abbrev W : S512.Idx → EReal := m ((d.tc : Thread nD τ).loc main_arg2)
/-- The fourth argument: the biases. -/
abbrev C : S512.Idx → EReal := m ((d.tc : Thread nD τ).loc main_arg3)

/-- A group's selected sum is the sum over its rows. -/
theorem gSum_eq (g : Fin 64) (f : Fin 512) : gSum m d g f = ∑ q ∈ members (B m d) g, X m d (ix2 q f) :=
  sum_selected (fun q : Fin 100000 => B m d (ix1 q) = BitVec.ofNat 32 g.val) fun q => X m d (ix2 q f)

/-- A group's selected sum of squares is the sum over its rows. -/
theorem gSq_eq (g : Fin 64) (f : Fin 512) :
    gSq m d g f = ∑ q ∈ members (B m d) g, X m d (ix2 q f) * X m d (ix2 q f) :=
  sum_selected (fun q : Fin 100000 => B m d (ix1 q) = BitVec.ofNat 32 g.val) fun q => X m d (ix2 q f) * X m d (ix2 q f)

/-- A group's selected count is the number of its rows. -/
theorem gCnt_eq (g : Fin 64) : gCnt m d g = ∑ _q ∈ members (B m d) g, (1 : EReal) := by
  unfold members
  rw [Finset.sum_filter]
  rfl

/-- The selector of group `g` at a row of group `k`: one when they are the same, else zero. -/
theorem hot_at (k g : Fin 64) : hot (BitVec.ofNat 32 k.val) g = if g = k then 1 else 0 := by
  unfold hot
  refine if_congr ⟨fun h => ?_, fun h => by rw [h]⟩ rfl rfl
  have h' := congrArg BitVec.toNat h
  rw [BitVec.toNat_ofNat, BitVec.toNat_ofNat] at h'
  have := g.isLt
  have := k.isLt
  exact Fin.ext (by omega)

/-- At a row of group `k` the kernel program's entry uses group `k`'s scale and shift alone. -/
theorem outEntry_at (r : Fin 100000) (f : Fin 512) (k : Fin 64) (h : B m d (ix1 r) = BitVec.ofNat 32 k.val) :
    outEntry m d r f = X m d (ix2 r f)
        * kScale (gSum m d k f) (gSq m d k f) (gCnt m d k) (W m d (ix1 f)) (Ideal.ofBits .f32 0x3727C5AC#32)
      + kShift (gSum m d k f) (gSq m d k f) (gCnt m d k) (W m d (ix1 f)) (C m d (ix1 f)) (Ideal.ofBits .f32 0x3727C5AC#32) := by
  have h1 : hot (argB m d r) k = 1 := by rw [show argB m d r = _ from h, hot_at, if_pos rfl]
  have h0 : ∀ g, g ≠ k → hot (argB m d r) g = 0 := fun g hg => by rw [show argB m d r = _ from h, hot_at, if_neg hg]
  unfold outEntry
  rw [pick_group k _ _ h1 h0, pick_group k _ _ h1 h0]

/-- Where the group words are below 64 and the values and weights are reals, the kernel program's entry is the
    reference's. -/
theorem entries_agree (hB : ∀ i, (B m d i).toNat < 64) (hX : ∀ i, ∃ a : ℝ, X m d i = (a : EReal))
    (hW : ∀ i, ∃ a : ℝ, W m d i = (a : EReal)) (r : Fin 100000) (f : Fin 512) :
    outEntry m d r f = Cert.ReferenceIdeal.Entry.out (X m d) (B m d) (W m d) (C m d) (ix2 r f) := by
  have hk : B m d (ix1 r) = BitVec.ofNat 32 (⟨(B m d (ix1 r)).toNat, hB _⟩ : Fin 64).val := by
    rw [BitVec.ofNat_toNat, BitVec.setWidth_eq]
  generalize (⟨(B m d (ix1 r)).toNat, hB _⟩ : Fin 64) = k at hk
  choose a ha using hX
  obtain ⟨w, hw⟩ := hW (ix1 f)
  obtain ⟨e, he, hee⟩ := eps_real
  have hH : (members (B m d) k).Nonempty := ⟨r, Finset.mem_filter.2 ⟨Finset.mem_univ _, hk⟩⟩
  have key := entry_eq (members (B m d) k) hH (fun q => a (ix2 q f)) r w e he (C m d (ix1 f))
  simp only [← ha, ← hw, ← hee] at key
  rw [outEntry_at m d r f k hk, gSum_eq, gSq_eq, gCnt_eq]
  exact key.trans (Cert.ReferenceIdeal.Entry.out_at (X m d) (B m d) (W m d) (C m d) r f k hk).symm

/-- The same, as arrays. -/
theorem results_agree (hB : ∀ i, (B m d i).toNat < 64) (hX : ∀ i, ∃ a : ℝ, X m d i = (a : EReal))
    (hW : ∀ i, ∃ a : ℝ, W m d i = (a : EReal)) :
    Cert.ReferenceIdeal.Entry.out (X m d) (B m d) (W m d) (C m d)
      = fun i : S100000x512.Idx => outEntry m d (i 0) (i 1) :=
  funext fun i => (congrArg _ (eq_ix2 i)).trans (entries_agree m d hB hX hW (i 0) (i 1)).symm

end Cert.GraphNorm

end
-- ==== Proof.lean ====
/-
  The claims of this certificate, assembled: the kernel program, its idealization and the reference leave their arguments
  and the semaphore counters as they found them, the idealization is the kernel program, and its result equals the
  reference's on the stated inputs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pre
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the arguments and meet the precondition, the kernel program and the reference both end
    with the kernel program's entries, their arguments as they were. -/
theorem algebraic : algebraic_KernelIdeal_ReferenceIdeal_pre_pre := fun m g m' g' hpre hargs =>
  ⟨fun c => fun i : Cert.KernelIdeal.S100000x512.Idx => Cert.KernelIdeal.Whole.outEntry m c (i 0) (i 1),
    Cert.KernelIdeal.Whole.run m g,
    (θ_run Cert.ReferenceIdeal.defs _ _).mono (fun r h c => ⟨(h c).1.trans (by
        obtain ⟨hB, hX, hW⟩ := Cert.PreFacts.unpack _ _ _ _ (hpre c)
        obtain ⟨e0, e1, e2, e3⟩ := hargs c
        rw [Cert.ReferenceIdeal.Entry.res_eq_out, e0, e1, e2, e3]
        exact Cert.GraphNorm.results_agree m c hB hX hW), (h c).2⟩)
      (Cert.ReferenceIdeal.Value.run m' g')⟩

/-- Every claim of this certificate. -/
theorem claim : Cert.Claim :=
  ⟨Cert.Kernel.Gen.facts, Cert.KernelIdeal.Gen.facts, Cert.ReferenceIdeal.Gen.facts, Cert.Pre_pre.Gen.facts,
    fun m g _ => Cert.Kernel.Gen.frame m g, fun m g _ => Cert.KernelIdeal.Gen.frame m g,
    fun m g _ => Cert.KernelIdeal.Gen.frame m g, fun m g _ => Cert.ReferenceIdeal.Quiet.quiet m g,
    fun m g _ => Cert.ReferenceIdeal.Quiet.quiet m g, trivial, algebraic⟩

end Cert.Proof

end
